-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "tenth" .f32 0x3DCCCCCD#32 ((10⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1152x8 : Shape := ⟨3, ![256, 1152, 8]⟩
abbrev S1x1152x10x8x16 : Shape := ⟨5, ![1, 1152, 10, 8, 16]⟩
abbrev S256x8x1152 : Shape := ⟨3, ![256, 8, 1152]⟩
abbrev S1152x10x8x16 : Shape := ⟨4, ![1152, 10, 8, 16]⟩
abbrev S10x8x16x1152 : Shape := ⟨4, ![10, 8, 16, 1152]⟩
abbrev S256x10x16 : Shape := ⟨3, ![256, 10, 16]⟩
abbrev S8x8x1152 : Shape := ⟨3, ![8, 8, 1152]⟩
abbrev S8x10x16 : Shape := ⟨3, ![8, 10, 16]⟩
abbrev S8x8x8x1152 : Shape := ⟨4, ![8, 8, 8, 1152]⟩
abbrev S8x1x1152 : Shape := ⟨3, ![8, 1, 1152]⟩
abbrev S8x1152 : Shape := ⟨2, ![8, 1152]⟩
abbrev S1x8x8x1152 : Shape := ⟨4, ![1, 8, 8, 1152]⟩
abbrev S1x8x8x128 : Shape := ⟨4, ![1, 8, 8, 128]⟩
abbrev S8x8x128 : Shape := ⟨3, ![8, 8, 128]⟩
abbrev S8x16x128 : Shape := ⟨3, ![8, 16, 128]⟩
abbrev S1x1x16x128 : Shape := ⟨4, ![1, 1, 16, 128]⟩
abbrev S16x128 : Shape := ⟨2, ![16, 128]⟩
abbrev S1x16x128 : Shape := ⟨3, ![1, 16, 128]⟩
abbrev S1x8x16x128 : Shape := ⟨4, ![1, 8, 16, 128]⟩
abbrev S8x16 : Shape := ⟨2, ![8, 16]⟩
abbrev S8 : Shape := ⟨1, ![8]⟩
abbrev S8x1 : Shape := ⟨2, ![8, 1]⟩
abbrev S1x8x16x1152 : Shape := ⟨4, ![1, 8, 16, 1152]⟩
abbrev S8x16x1152 : Shape := ⟨3, ![8, 16, 1152]⟩
abbrev S8x16x1 : Shape := ⟨3, ![8, 16, 1]⟩
abbrev S8x1x16 : Shape := ⟨3, ![8, 1, 16]⟩

abbrev nBuf : Space → Nat
  | .hbm => 6
  | .vmem => 7
  | .smem => 0
  | _ => 0

abbrev bufTy : (tb : Table) → Fin (tcTables nBuf tb) → BufTy
  | .hbm, ⟨0, _⟩ => ⟨S256x1152x8, .f32⟩
  | .hbm, ⟨1, _⟩ => ⟨S1x1152x10x8x16, .f32⟩
  | .hbm, ⟨2, _⟩ => ⟨S256x8x1152, .f32⟩
  | .hbm, ⟨3, _⟩ => ⟨S1152x10x8x16, .f32⟩
  | .hbm, ⟨4, _⟩ => ⟨S10x8x16x1152, .f32⟩
  | .hbm, ⟨5, _⟩ => ⟨S256x10x16, .f32⟩
  | .local _ .vmem, ⟨0, _⟩ => ⟨S8x8x1152, .f32⟩
  | .local _ .vmem, ⟨1, _⟩ => ⟨S8x8x1152, .f32⟩
  | .local _ .vmem, ⟨2, _⟩ => ⟨S10x8x16x1152, .f32⟩
  | .local _ .vmem, ⟨3, _⟩ => ⟨S8x10x16, .f32⟩
  | .local _ .vmem, ⟨4, _⟩ => ⟨S8x10x16, .f32⟩
  | .local _ .vmem, ⟨5, _⟩ => ⟨S10x8x16x1152, .f32⟩
  | .local _ .vmem, ⟨6, _⟩ => ⟨S8x8x8x1152, .f32⟩
  | _, _ => ⟨S256x1152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x8x16x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x10x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "tenth" => some ((10⁻¹ : ℝ) : EReal)
  | _ => none
-- ==== ReferenceIdeal.lean ====
abbrev S256x1152x8 : Shape := ⟨3, ![256, 1152, 8]⟩
abbrev S1x1152x10x8x16 : Shape := ⟨5, ![1, 1152, 10, 8, 16]⟩
abbrev S1152x10x8x16 : Shape := ⟨4, ![1152, 10, 8, 16]⟩
abbrev S1152x10x16x256 : Shape := ⟨4, ![1152, 10, 16, 256]⟩
abbrev S256x1152x10x16 : Shape := ⟨4, ![256, 1152, 10, 16]⟩
abbrev S_ : Shape := ⟨0, ![]⟩
abbrev S256x1152x10 : Shape := ⟨3, ![256, 1152, 10]⟩
abbrev S256x10x16 : Shape := ⟨3, ![256, 10, 16]⟩
abbrev S256x1152 : Shape := ⟨2, ![256, 1152]⟩
abbrev S256x1152x1 : Shape := ⟨3, ![256, 1152, 1]⟩
abbrev S256x10 : Shape := ⟨2, ![256, 10]⟩
abbrev S256x10x1 : Shape := ⟨3, ![256, 10, 1]⟩
abbrev S256x10x1152 : Shape := ⟨3, ![256, 10, 1152]⟩

abbrev nBuf : Space → Nat
  | .hbm => 117
  | .vmem => 0
  | .smem => 0
  | _ => 0

abbrev bufTy : (tb : Table) → Fin (tcTables nBuf tb) → BufTy
  | .hbm, ⟨0, _⟩ => ⟨S256x1152x8, .f32⟩
  | .hbm, ⟨1, _⟩ => ⟨S1x1152x10x8x16, .f32⟩
  | .hbm, ⟨2, _⟩ => ⟨S1152x10x8x16, .f32⟩
  | .hbm, ⟨3, _⟩ => ⟨S1152x10x16x256, .f32⟩
  | .hbm, ⟨4, _⟩ => ⟨S256x1152x10x16, .f32⟩
  | .hbm, ⟨5, _⟩ => ⟨S_, .f32⟩
  | .hbm, ⟨6, _⟩ => ⟨S256x1152x10, .f32⟩
  | .hbm, ⟨7, _⟩ => ⟨S_, .f32⟩
  | .hbm, ⟨8, _⟩ => ⟨S256x10x16, .f32⟩
  | .hbm, ⟨9, _⟩ => ⟨S_, .f32⟩
  | .hbm, ⟨10, _⟩ => ⟨S256x1152, .f32⟩
  | .hbm, ⟨11, _⟩ => ⟨S_, .f32⟩
  | .hbm, ⟨12, _⟩ => ⟨S256x1152, .f32⟩
  | .hbm, ⟨13, _⟩ => ⟨S256x1152, .f32⟩
  | .hbm, ⟨14, _⟩ => ⟨S256x1152x1, .f32⟩
  | .hbm, ⟨15, _⟩ => ⟨S256x1152x10, .f32⟩
  | .hbm, ⟨16, _⟩ => ⟨S256x1152x10, .f32⟩
  | .hbm, ⟨17, _⟩ => ⟨S256x1152x10, .f32⟩
  | .hbm, ⟨18, _⟩ => ⟨S_, .f32⟩
  | .hbm, ⟨19, _⟩ => ⟨S256x1152, .f32⟩
  | .hbm, ⟨20, _⟩ => ⟨S256x1152x1, .f32⟩
  | .hbm, ⟨21, _⟩ => ⟨S256x1152x10, .f32⟩
  | .hbm, ⟨22, _⟩ => ⟨S256x1152x10, .f32⟩
  | .hbm, ⟨23, _⟩ => ⟨S256x10x16, .f32⟩
  | .hbm, ⟨24, _⟩ => ⟨S256x10x16, .f32⟩
  | .hbm, ⟨25, _⟩ => ⟨S_, .f32⟩
  | .hbm, ⟨26, _⟩ => ⟨S256x10, .f32⟩
  | .hbm, ⟨27, _⟩ => ⟨S256x10x1, .f32⟩
  | .hbm, ⟨28, _⟩ => ⟨S256x10x1, .f32⟩
  | .hbm, ⟨29, _⟩ => ⟨S256x10x1, .f32⟩
  | .hbm, ⟨30, _⟩ => ⟨S256x10x1, .f32⟩
  | .hbm, ⟨31, _⟩ => ⟨S_, .f32⟩
  | .hbm, ⟨32, _⟩ => ⟨S256x10x1, .f32⟩
  | .hbm, ⟨33, _⟩ => ⟨S256x10x1, .f32⟩
  | .hbm, ⟨34, _⟩ => ⟨S256x10x1, .f32⟩
  | .hbm, ⟨35, _⟩ => ⟨S256x10x16, .f32⟩
  | .hbm, ⟨36, _⟩ => ⟨S256x10x16, .f32⟩
  | .hbm, ⟨37, _⟩ => ⟨S_, .f32⟩
  | .hbm, ⟨38, _⟩ => ⟨S256x10x1, .f32⟩
  | .hbm, ⟨39, _⟩ => ⟨S256x10x1, .f32⟩
  | .hbm, ⟨40, _⟩ => ⟨S256x10x16, .f32⟩
  | .hbm, ⟨41, _⟩ => ⟨S256x10x16, .f32⟩
  | .hbm, ⟨42, _⟩ => ⟨S256x10x1152, .f32⟩
  | .hbm, ⟨43, _⟩ => ⟨S256x1152x10, .f32⟩
  | .hbm, ⟨44, _⟩ => ⟨S256x1152x10, .f32⟩
  | .hbm, ⟨45, _⟩ => ⟨S_, .f32⟩
  | .hbm, ⟨46, _⟩ => ⟨S256x1152, .f32⟩
  | .hbm, ⟨47, _⟩ => ⟨S_, .f32⟩
  | .hbm, ⟨48, _⟩ => ⟨S256x1152, .f32⟩
  | .hbm, ⟨49, _⟩ => ⟨S256x1152, .f32⟩
  | .hbm, ⟨50, _⟩ => ⟨S256x1152x1, .f32⟩
  | .hbm, ⟨51, _⟩ => ⟨S256x1152x10, .f32⟩
  | .hbm, ⟨52, _⟩ => ⟨S256x1152x10, .f32⟩
  | .hbm, ⟨53, _⟩ => ⟨S256x1152x10, .f32⟩
  | .hbm, ⟨54, _⟩ => ⟨S_, .f32⟩
  | .hbm, ⟨55, _⟩ => ⟨S256x1152, .f32⟩
  | .hbm, ⟨56, _⟩ => ⟨S256x1152x1, .f32⟩
  | .hbm, ⟨57, _⟩ => ⟨S256x1152x10, .f32⟩
  | .hbm, ⟨58, _⟩ => ⟨S256x1152x10, .f32⟩
  | .hbm, ⟨59, _⟩ => ⟨S256x10x16, .f32⟩
  | .hbm, ⟨60, _⟩ => ⟨S256x10x16, .f32⟩
  | .hbm, ⟨61, _⟩ => ⟨S_, .f32⟩
  | .hbm, ⟨62, _⟩ => ⟨S256x10, .f32⟩
  | .hbm, ⟨63, _⟩ => ⟨S256x10x1, .f32⟩
  | .hbm, ⟨64, _⟩ => ⟨S256x10x1, .f32⟩
  | .hbm, ⟨65, _⟩ => ⟨S256x10x1, .f32⟩
  | .hbm, ⟨66, _⟩ => ⟨S256x10x1, .f32⟩
  | .hbm, ⟨67, _⟩ => ⟨S_, .f32⟩
  | .hbm, ⟨68, _⟩ => ⟨S256x10x1, .f32⟩
  | .hbm, ⟨69, _⟩ => ⟨S256x10x1, .f32⟩
  | .hbm, ⟨70, _⟩ => ⟨S256x10x1, .f32⟩
  | .hbm, ⟨71, _⟩ => ⟨S256x10x16, .f32⟩
  | .hbm, ⟨72, _⟩ => ⟨S256x10x16, .f32⟩
  | .hbm, ⟨73, _⟩ => ⟨S_, .f32⟩
  | .hbm, ⟨74, _⟩ => ⟨S256x10x1, .f32⟩
  | .hbm, ⟨75, _⟩ => ⟨S256x10x1, .f32⟩
  | .hbm, ⟨76, _⟩ => ⟨S256x10x16, .f32⟩
  | .hbm, ⟨77, _⟩ => ⟨S256x10x16, .f32⟩
  | .hbm, ⟨78, _⟩ => ⟨S256x10x1152, .f32⟩
  | .hbm, ⟨79, _⟩ => ⟨S256x1152x10, .f32⟩
  | .hbm, ⟨80, _⟩ => ⟨S256x1152x10, .f32⟩
  | .hbm, ⟨81, _⟩ => ⟨S_, .f32⟩
  | .hbm, ⟨82, _⟩ => ⟨S256x1152, .f32⟩
  | .hbm, ⟨83, _⟩ => ⟨S_, .f32⟩
  | .hbm, ⟨84, _⟩ => ⟨S256x1152, .f32⟩
  | .hbm, ⟨85, _⟩ => ⟨S256x1152, .f32⟩
  | .hbm, ⟨86, _⟩ => ⟨S256x1152x1, .f32⟩
  | .hbm, ⟨87, _⟩ => ⟨S256x1152x10, .f32⟩
  | .hbm, ⟨88, _⟩ => ⟨S256x1152x10, .f32⟩
  | .hbm, ⟨89, _⟩ => ⟨S256x1152x10, .f32⟩
  | .hbm, ⟨90, _⟩ => ⟨S_, .f32⟩
  | .hbm, ⟨91, _⟩ => ⟨S256x1152, .f32⟩
  | .hbm, ⟨92, _⟩ => ⟨S256x1152x1, .f32⟩
  | .hbm, ⟨93, _⟩ => ⟨S256x1152x10, .f32⟩
  | .hbm, ⟨94, _⟩ => ⟨S256x1152x10, .f32⟩
  | .hbm, ⟨95, _⟩ => ⟨S256x10x16, .f32⟩
  | .hbm, ⟨96, _⟩ => ⟨S256x10x16, .f32⟩
  | .hbm, ⟨97, _⟩ => ⟨S_, .f32⟩
  | .hbm, ⟨98, _⟩ => ⟨S256x10, .f32⟩
  | .hbm, ⟨99, _⟩ => ⟨S256x10x1, .f32⟩
  | .hbm, ⟨100, _⟩ => ⟨S256x10x1, .f32⟩
  | .hbm, ⟨101, _⟩ => ⟨S256x10x1, .f32⟩
  | .hbm, ⟨102, _⟩ => ⟨S256x10x1, .f32⟩
  | .hbm, ⟨103, _⟩ => ⟨S_, .f32⟩
  | .hbm, ⟨104, _⟩ => ⟨S256x10x1, .f32⟩
  | .hbm, ⟨105, _⟩ => ⟨S256x10x1, .f32⟩
  | .hbm, ⟨106, _⟩ => ⟨S256x10x1, .f32⟩
  | .hbm, ⟨107, _⟩ => ⟨S256x10x16, .f32⟩
  | .hbm, ⟨108, _⟩ => ⟨S256x10x16, .f32⟩
  | .hbm, ⟨109, _⟩ => ⟨S_, .f32⟩
  | .hbm, ⟨110, _⟩ => ⟨S256x10x1, .f32⟩
  | .hbm, ⟨111, _⟩ => ⟨S256x10x1, .f32⟩
  | .hbm, ⟨112, _⟩ => ⟨S256x10x16, .f32⟩
  | .hbm, ⟨113, _⟩ => ⟨S256x10x16, .f32⟩
  | .hbm, ⟨114, _⟩ => ⟨S256x10x1152, .f32⟩
  | .hbm, ⟨115, _⟩ => ⟨S256x1152x10, .f32⟩
  | .hbm, ⟨116, _⟩ => ⟨S256x1152x10, .f32⟩
  | _, _ => ⟨S256x1152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Proof.Body.lean ====
/-
  What one block of the kernel computes, written once for every tile and every output capsule.

  The kernel's text unrolls its loops: 9 tiles of 128 input capsules, 10 output capsules, 8 entries of an
  input capsule, 3 routing steps. The definitions here are the bodies of those loops over the values they
  load, with the same operations in the same order. `Printed.lean` shows that the unrolled text is these
  definitions at each of its cases.
-/
module

public import proofs.«01_k».proof.Proof.Gen.KernelIdeal.Frame.Runs

@[expose] public section

set_option maxRecDepth 16384

noncomputable section

namespace Cert.Body

open Cert.KernelIdeal Cert.KernelIdeal.Gen
open Idealize.ShloMosaic Idealize.SL.Sem

variable {F : FTy → Type} [FloatOps F] [Named F]

/-! ### Predictions -/

/-- One entry of the block's input capsules, repeated along a new axis of eight rows. -/
def spread (x : Vec F S8x1x1152 .f32) : FVec F S1x8x8x1152 .f32 :=
  shapeCast S1x8x8x1152
    (broadcastTo S8x8x1152
      (shapeCast S8x1x1152
        (shapeCast S8x1x1152
          (shapeCast S8x1152 x shapeCasts_S8x1x1152_S8x1152)
          shapeCasts_S8x1152_S8x1x1152)
        shapeCasts_S8x1x1152_S8x1x1152)
      broadcasts_S8x1x1152_S8x8x1152)
    shapeCasts_S8x8x1152_S1x8x8x1152

/-- A tile of the repeated entry, its eight rows doubled to sixteen. -/
def doubled (x : Vec F S1x8x8x128 .f32) : FVec F S8x16x128 .f32 :=
  concatenate S8x16x128 1
    [⟨S8x8x128, shapeCast S8x8x128 x shapeCasts_S1x8x8x128_S8x8x128⟩,
     ⟨S8x8x128, shapeCast S8x8x128 x shapeCasts_S1x8x8x128_S8x8x128⟩]
    concatenates_S8x8x128_S8x8x128_S8x16x128_d1

/-- A tile of the weights, repeated over the examples of the block. -/
def weight (w : Vec F S1x1x16x128 .f32) : FVec F S8x16x128 .f32 :=
  broadcastTo S8x16x128
    (shapeCast S1x16x128 (shapeCast S16x128 w shapeCasts_S1x1x16x128_S16x128) shapeCasts_S16x128_S1x16x128)
    broadcasts_S1x16x128_S8x16x128

/-- The predictions of one tile of input capsules for one output capsule: entry by entry products, summed. -/
def tile (x : Fin 8 → Vec F S1x8x8x128 .f32) (w : Fin 8 → Vec F S1x1x16x128 .f32) : FVec F S8x16x128 .f32 :=
  addf (addf (addf (addf (addf (addf (addf
    (mulf (doubled (x 0)) (weight (w 0)))
    (mulf (doubled (x 1)) (weight (w 1))))
    (mulf (doubled (x 2)) (weight (w 2))))
    (mulf (doubled (x 3)) (weight (w 3))))
    (mulf (doubled (x 4)) (weight (w 4))))
    (mulf (doubled (x 5)) (weight (w 5))))
    (mulf (doubled (x 6)) (weight (w 6))))
    (mulf (doubled (x 7)) (weight (w 7)))

/-- The tile as it is stored. -/
def stored (a : FVec F S8x16x128 .f32) : FVec F S1x8x16x128 .f32 :=
  shapeCast S1x8x16x128 a shapeCasts_S8x16x128_S1x8x16x128

/-- The nine tiles of an output capsule added lane by lane. -/
def lanes (a : Fin 9 → FVec F S8x16x128 .f32) : FVec F S8x16x128 .f32 :=
  addf (addf (addf (addf (addf (addf (addf (addf (a 0) (a 1)) (a 2)) (a 3)) (a 4)) (a 5)) (a 6)) (a 7)) (a 8)

/-! ### Routing -/

/-- The sum of the squares of each example's vector. -/
def sumsq (s : FVec F S8x16 .f32) : FVec F S8x1 .f32 :=
  shapeCast S8x1
    (multiReduction .add [1] S8 (mulf s s) 0x00000000#32 reduces_S8x16_S8 (.inl rfl) rfl)
    shapeCasts_S8_S8x1

/-- The squash of each example's vector. -/
def squashed (s : FVec F S8x16 .f32) : FVec F S8x16 .f32 :=
  mulf s (broadcastTo S8x16
    (divf
      (divf (sumsq s) (addf (broadcast S8x1 (Scalar.ofBits .f32 0x3F800000#32)) (sumsq s)))
      (addf (sqrt (sumsq s)) (broadcast S8x1 (Scalar.ofBits .f32 0x322BCC77#32))))
    broadcasts_S8x1_S8x16)

/-- The first step's sum: a tenth of the sum over all input capsules. -/
def firstSum (a : FVec F S8x16x128 .f32) : FVec F S8x16 .f32 :=
  mulf (multiReduction .add [2] S8x16 a 0x00000000#32 reduces_S8x16x128_S8x16 (.inl rfl) rfl)
    (broadcast S8x16 (Named.named κ "tenth" 0x3DCCCCCD#32))

/-- A later step's sum: predictions weighted by couplings. -/
def weighted (k : FVec F S8x1152 .f32) (u : Vec F S1x8x16x1152 .f32) : FVec F S8x16 .f32 :=
  multiReduction .add [2] S8x16
    (mulf
      (broadcastTo S8x16x1152 (shapeCast S8x1x1152 k shapeCasts_S8x1152_S8x1x1152) broadcasts_S8x1x1152_S8x16x1152)
      (shapeCast S8x16x1152 u shapeCasts_S1x8x16x1152_S8x16x1152))
    0x00000000#32 reduces_S8x16x1152_S8x16 (.inl rfl) rfl

/-- The agreement of each prediction with the squashed sum. -/
def agreed (u : Vec F S1x8x16x1152 .f32) (v : FVec F S8x16 .f32) : FVec F S8x1152 .f32 :=
  multiReduction .add [1] S8x1152
    (mulf
      (shapeCast S8x16x1152 u shapeCasts_S1x8x16x1152_S8x16x1152)
      (broadcastTo S8x16x1152 (shapeCast S8x16x1 v shapeCasts_S8x16_S8x16x1) broadcasts_S8x16x1_S8x16x1152))
    0x00000000#32 reduces_S8x16x1152_S8x1152 (.inl rfl) rfl

/-- The sum of the exponentials of the ten logits. -/
def total (l : Fin 10 → FVec F S8x1152 .f32) : FVec F S8x1152 .f32 :=
  addf (addf (addf (addf (addf (addf (addf (addf (addf
    (exp (l 0)) (exp (l 1))) (exp (l 2))) (exp (l 3))) (exp (l 4))) (exp (l 5))) (exp (l 6))) (exp (l 7)))
    (exp (l 8))) (exp (l 9))

/-- The couplings of the logits. -/
def coupling (l : Fin 10 → FVec F S8x1152 .f32) (c : Fin 10) : FVec F S8x1152 .f32 :=
  mulf (exp (l c)) (divf (broadcast S8x1152 (Scalar.ofBits .f32 0x3F800000#32)) (total l))

/-- The logits after the first step. -/
def logitsA (a : Fin 10 → FVec F S8x16x128 .f32) (u : Fin 10 → Vec F S1x8x16x1152 .f32) (c : Fin 10) :
    FVec F S8x1152 .f32 :=
  agreed (u c) (squashed (firstSum (a c)))

/-- The output capsules of a later step. -/
def routed (l : Fin 10 → FVec F S8x1152 .f32) (u : Fin 10 → Vec F S1x8x16x1152 .f32) (c : Fin 10) :
    FVec F S8x16 .f32 :=
  squashed (weighted (coupling l c) (u c))

/-- The logits after the second step. -/
def logitsB (l : Fin 10 → FVec F S8x1152 .f32) (u : Fin 10 → Vec F S1x8x16x1152 .f32) (c : Fin 10) :
    FVec F S8x1152 .f32 :=
  addf (l c) (agreed (u c) (routed l u c))

/-- An output capsule after the third step, as it is stored. -/
def final (a : Fin 10 → FVec F S8x16x128 .f32) (u : Fin 10 → Vec F S1x8x16x1152 .f32) (c : Fin 10) :
    FVec F S8x1x16 .f32 :=
  shapeCast S8x1x16 (routed (logitsB (logitsA a u) u) u c) shapeCasts_S8x16_S8x1x16

/-! ### The stores, last first -/

/-- The pieces `f (n - 1), …, f 0`. -/
def down {α : Type} (f : ℕ → α) : ℕ → List α
  | 0 => []
  | n + 1 => f n :: down f n

/-- The members of the list counted down from `n` are the values below `n`. -/
theorem mem_down {α : Type} (f : ℕ → α) (n : ℕ) (p : α) : p ∈ down f n ↔ ∃ k < n, p = f k := by
  induction n with
  | zero => simp [down]
  | succ n ih =>
    simp only [down, List.mem_cons, ih]
    constructor
    · rintro (rfl | ⟨k, hk, rfl⟩)
      · exact ⟨n, by omega, rfl⟩
      · exact ⟨k, by omega, rfl⟩
    · rintro ⟨k, hk, rfl⟩
      rcases Nat.lt_succ_iff_lt_or_eq.1 hk with h | rfl
      · exact .inr ⟨k, h, rfl⟩
      · exact .inl rfl

/-- Where the repeated entry `i` is kept. -/
def spreadAt (i : Fin 8) : Rect S8x8x8x1152 :=
  Rect.unit ![i, 0, 0, 0] S1x8x8x1152.size fun a => by
    have := i.isLt; fin_cases a <;> simp [S1x8x8x1152, S8x8x8x1152] <;> omega

/-- A tile of the repeated entry `i`. -/
def spreadTile (i : Fin 8) (t : Fin 9) : Rect S8x8x8x1152 :=
  Rect.unit ![i, 0, 0, 128 * t] S1x8x8x128.size fun a => by
    have := i.isLt; have := t.isLt; fin_cases a <;> simp [S1x8x8x128, S8x8x8x1152] <;> omega

/-- A tile of the weights. -/
def weightTile (c : Fin 10) (i : Fin 8) (t : Fin 9) : Rect S10x8x16x1152 :=
  Rect.unit ![c, i, 0, 128 * t] S1x1x16x128.size fun a => by
    have := c.isLt; have := i.isLt; have := t.isLt
    fin_cases a <;> simp [S1x1x16x128, S10x8x16x1152] <;> omega

/-- Where a tile of the predictions for output capsule `c` is kept. -/
def predTile (c : Fin 10) (t : Fin 9) : Rect S10x8x16x1152 :=
  Rect.unit ![c, 0, 0, 128 * t] S1x8x16x128.size fun a => by
    have := c.isLt; have := t.isLt
    fin_cases a <;> simp [S1x8x16x128, S10x8x16x1152] <;> omega

/-- All predictions for output capsule `c`. -/
def predAt (c : Fin 10) : Rect S10x8x16x1152 :=
  Rect.unit ![c, 0, 0, 0] S1x8x16x1152.size fun a => by
    have := c.isLt; fin_cases a <;> simp [S1x8x16x1152, S10x8x16x1152] <;> omega

/-- One entry of the block's input capsules. -/
def inputAt (i : Fin 8) : Rect S8x8x1152 :=
  Rect.unit ![0, i, 0] S8x1x1152.size fun a => by
    have := i.isLt; fin_cases a <;> simp [S8x1x1152, S8x8x1152] <;> omega

/-- Output capsule `c` of the block's result. -/
def resultAt (c : Fin 10) : Rect S8x10x16 :=
  Rect.unit ![0, c, 0] S8x1x16.size fun a => by
    have := c.isLt; fin_cases a <;> simp [S8x1x16, S8x10x16] <;> omega

/-- The store of the repeated entry `n`. -/
def spreadPiece (x : Fin 8 → Vec F S8x1x1152 .f32) (n : ℕ) : View.Piece (Elt F) S8x8x8x1152 .f32 :=
  ⟨spreadAt (Fin.ofNat 8 n), spread (x (Fin.ofNat 8 n))⟩

/-- The store of the predictions numbered `n`: tile by tile, in each the ten output capsules. -/
def predPiece (x : Fin 8 → Fin 9 → Vec F S1x8x8x128 .f32) (w : Fin 10 → Fin 8 → Fin 9 → Vec F S1x1x16x128 .f32)
    (n : ℕ) : View.Piece (Elt F) S10x8x16x1152 .f32 :=
  ⟨predTile (Fin.ofNat 10 n) (Fin.ofNat 9 (n / 10)),
    stored (tile (fun i => x i (Fin.ofNat 9 (n / 10))) fun i => w (Fin.ofNat 10 n) i (Fin.ofNat 9 (n / 10)))⟩

/-- The sums over the tiles. -/
def laneSum (x : Fin 8 → Fin 9 → Vec F S1x8x8x128 .f32) (w : Fin 10 → Fin 8 → Fin 9 → Vec F S1x1x16x128 .f32)
    (c : Fin 10) : FVec F S8x16x128 .f32 :=
  lanes fun t => tile (fun i => x i t) fun i => w c i t

/-- The store of output capsule `n`. -/
def resultPiece (a : Fin 10 → FVec F S8x16x128 .f32) (u : Fin 10 → Vec F S1x8x16x1152 .f32) (n : ℕ) :
    View.Piece (Elt F) S8x10x16 .f32 :=
  ⟨resultAt (Fin.ofNat 10 n), final a u (Fin.ofNat 10 n)⟩

end Cert.Body

end
-- ==== Proof.Printed.lean ====
/-
  The unrolled text of the kernel is the loops of `Body.lean`.

  The body stores three things in turn: the repeated entries, the predictions, and the result. Here each list
  of stores is the one `Body.lean` writes with a variable for the case, over the values the body loads, and the
  run's list of stores of the result is shown to be it.
-/
module

public import proofs.«01_k».proof.Proof.Body
public import proofs.«01_k».proof.Proof.Gen.KernelIdeal.Frame

@[expose] public section

set_option maxRecDepth 16384

noncomputable section

namespace Cert.Printed

open Cert.KernelIdeal Cert.KernelIdeal.Gen Cert.Body
open Idealize.ShloMosaic Idealize.ShloMosaic.TcCoe Idealize.SL.Sem

variable {F : FTy → Type} [FloatOps F] [Named F]

variable (c : Dev nD) (i : grid0.Coords)
  (arg1 : Memref sig .tc .vmem S8x8x1152 .f32) (harg1 : arg1.IsWhole)
  (arg2 : Memref sig .tc .vmem S10x8x16x1152 .f32) (harg2 : arg2.IsWhole)
  (arg3 : Memref sig .tc .vmem S8x10x16 .f32) (harg3 : arg3.IsWhole)
  (arg4 : Memref sig .tc .vmem S10x8x16x1152 .f32) (harg4 : arg4.IsWhole)
  (arg5 : Memref sig .tc .vmem S8x8x8x1152 .f32) (harg5 : arg5.IsWhole)
  (x0 : Vec F S8x8x1152 .f32) (x1 : Vec F S10x8x16x1152 .f32)

/-- An entry of the input capsules as loaded. -/
def inputs (k : Fin 8) : Vec F S8x1x1152 .f32 :=
  arg1.view.readAt (Elt F) (inputAt k).toLoadRect (harg1.unread x0)

/-- A tile of the weights as loaded. -/
def weights (o : Fin 10) (k : Fin 8) (t : Fin 9) : Vec F S1x1x16x128 .f32 :=
  arg2.view.readAt (Elt F) (weightTile o k t).toLoadRect (harg2.unread x1)

/-- The stores of the repeated entries. -/
def spreads : List (View.Piece (Elt F) S8x8x8x1152 .f32) :=
  down (spreadPiece (inputs arg1 harg1 x0)) 8

/-- A tile of a repeated entry as loaded back. -/
def tiles (k : Fin 8) (t : Fin 9) : Vec F S1x8x8x128 .f32 :=
  arg5.view.readCov (spreads arg1 harg1 x0) (spreadTile k t).toLoadRect

/-- The stores of the predictions. -/
def preds : List (View.Piece (Elt F) S10x8x16x1152 .f32) :=
  down (predPiece (tiles arg1 harg1 arg5 x0) (weights arg2 harg2 x1)) 90

/-- The predictions for an output capsule as loaded back. -/
def loaded (o : Fin 10) : Vec F S1x8x16x1152 .f32 :=
  arg4.view.readCov (preds arg1 harg1 arg2 harg2 arg5 x0 x1) (predAt o).toLoadRect

/-- The stores of the result. -/
def results : List (View.Piece (Elt F) S8x10x16 .f32) :=
  down (resultPiece (laneSum (tiles arg1 harg1 arg5 x0) (weights arg2 harg2 x1))
    (loaded arg1 harg1 arg2 harg2 arg4 arg5 x0 x1)) 10

set_option maxHeartbeats 4000000 in
/-- The stores of the result that the run of the unrolled body ends with are the loops' stores, over what the loops
load back from their own earlier stores. -/
theorem results_eq :
    (kernelRun0_A (F := F) c i arg1 harg1 arg2 harg2 arg3 harg3 arg4 harg4 arg5 harg5 x0 x1).1
      = results arg1 harg1 arg2 harg2 arg4 arg5 x0 x1 := by
  sl_kernel_rfl

end Cert.Printed

end
-- ==== Proof.Capsule.lean ====
/-
  The mathematics of one routing step, over the extended reals and away from any program.

  For one example of the batch, `u r c o` is the prediction that input capsule `r` makes for entry `o`
  of output capsule `c`. A routing step weighs the predictions by couplings, sums them over `r`,
  squashes the sums, and adds to each logit the inner product of the prediction with the squashed sum.

  Two forms of the squash and two forms of the softmax are compared. No value is assumed finite: the
  logits turn out to be finite whatever the inputs are, because a capsule whose sum has an infinite
  entry is squashed to zero.
-/
module

public import Idealize.ShloMosaic.PureOps.Ideal
public import Idealize.ShloMosaic.PureOps.Ideal.Laws

@[expose] public section

noncomputable section

namespace Cert.Capsule

open Idealize.ShloMosaic

/-- A value that is neither infinity. -/
def IsReal (x : EReal) : Prop := ∃ r : ℝ, x = (r : EReal)

/-- What is neither infinity is finite. -/
theorem fin_of_ne {x : EReal} (h1 : x ≠ ⊤) (h2 : x ≠ ⊥) : IsReal x :=
  ⟨x.toReal, (EReal.coe_toReal h1 h2).symm⟩

/-- A finite value is not infinity. -/
theorem IsReal.ne_top {x : EReal} (h : IsReal x) : x ≠ ⊤ := by
  obtain ⟨r, rfl⟩ := h; exact EReal.coe_ne_top r

/-- A finite value is not negative infinity. -/
theorem IsReal.ne_bot {x : EReal} (h : IsReal x) : x ≠ ⊥ := by
  obtain ⟨r, rfl⟩ := h; exact EReal.coe_ne_bot r

/-- Sums of finite values are finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Products of finite values are finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Zero is finite. -/
theorem fin_zero : IsReal 0 := ⟨0, rfl⟩

/-- Finite sums of finite values are finite. -/
theorem IsReal.sum {ι : Type} (s : Finset ι) (f : ι → EReal) (h : ∀ i ∈ s, IsReal (f i)) :
    IsReal (∑ i ∈ s, f i) := by
  classical
  induction s using Finset.induction_on with
  | empty => simpa using fin_zero
  | insert a s ha ih =>
    rw [Finset.sum_insert ha]
    exact (h a (Finset.mem_insert_self a s)).add
      (ih fun i hi => h i (Finset.mem_insert_of_mem hi))

/-- A finite sum of finite terms, as the sum of their real values. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- If a sum is finite, so is each of its terms. -/
theorem fin_of_sum {ι : Type} (s : Finset ι) (f : ι → EReal) (h : IsReal (∑ i ∈ s, f i)) :
    ∀ i ∈ s, IsReal (f i) := by
  classical
  induction s using Finset.induction_on with
  | empty => intro i hi; simp at hi
  | insert a s ha ih =>
    rw [Finset.sum_insert ha] at h
    have hb : f a ≠ ⊥ ∧ (∑ i ∈ s, f i) ≠ ⊥ := by
      constructor
      · intro e; exact h.ne_bot (by rw [e, EReal.bot_add])
      · intro e; exact h.ne_bot (by rw [e, EReal.add_bot])
    have h1 : IsReal (f a) := by
      refine fin_of_ne (fun e => h.ne_top ?_) hb.1
      rw [e, EReal.top_add_of_ne_bot hb.2]
    have h2 : IsReal (∑ i ∈ s, f i) := by
      refine fin_of_ne (fun e => h.ne_top ?_) hb.2
      rw [e, EReal.add_top_of_ne_bot hb.1]
    intro i hi
    rcases Finset.mem_insert.1 hi with rfl | hi
    · exact h1
    · exact ih h2 i hi

/-- A positive real factor does not make an infinite value finite. -/
theorem fin_of_pos_mul {k : ℝ} (hk : 0 < k) {x : EReal} (h : IsReal ((k : EReal) * x)) : IsReal x := by
  refine fin_of_ne (fun e => h.ne_top ?_) (fun e => h.ne_bot ?_)
  · rw [e, EReal.coe_mul_top_of_pos hk]
  · rw [e, EReal.coe_mul_bot_of_pos hk]

/-- A real factor that is not negative distributes over a sum of extended reals. -/
theorem sum_mul_coe {ι : Type} (s : Finset ι) (f : ι → EReal) {k : ℝ} (hk : 0 ≤ k) :
    (∑ i ∈ s, f i) * (k : EReal) = ∑ i ∈ s, (k : EReal) * f i := by
  classical
  have h0 : (0 : EReal) ≤ (k : EReal) := by exact_mod_cast hk
  induction s using Finset.induction_on with
  | empty => simp
  | insert a s ha ih =>
    rw [Finset.sum_insert ha, Finset.sum_insert ha,
      EReal.right_distrib_of_nonneg_of_ne_top h0 (EReal.coe_ne_top k), ih, mul_comm (f a)]

/-- A square is not negative, that of an infinity included. -/
theorem mul_self_nonneg (x : EReal) : 0 ≤ x * x := by
  induction x with
  | bot => simp
  | top => simp
  | coe r => exact_mod_cast _root_.mul_self_nonneg r

/-- A sum of squares is not negative. -/
theorem sum_sq_nonneg {n : ℕ} (s : Fin n → EReal) : 0 ≤ ∑ o, s o * s o :=
  Finset.sum_nonneg fun o _ => mul_self_nonneg (s o)

/-! ### Division and square root -/

/-- Off a zero divisor, division is multiplication by the inverse. -/
theorem div_of_ne {x y : EReal} (h : y ≠ 0) : Ideal.div x y = x * y⁻¹ := by
  unfold Ideal.div; rw [if_neg h]

/-- The root of a value that is not negative is not negative. -/
theorem sqrt_nonneg {x : EReal} (h : 0 ≤ x) : 0 ≤ Ideal.sqrt x := by
  induction x with
  | bot => simp at h
  | top => simp
  | coe r =>
    have hr : 0 ≤ r := by exact_mod_cast h
    rw [Ideal.sqrt_coe, if_neg (not_lt.2 hr)]
    exact_mod_cast Real.sqrt_nonneg r

/-- The root of a value that is not negative squares to it. -/
theorem sqrt_mul_self {x : EReal} (h : 0 ≤ x) : Ideal.sqrt x * Ideal.sqrt x = x := by
  induction x with
  | bot => simp at h
  | top => simp
  | coe r =>
    have hr : 0 ≤ r := by exact_mod_cast h
    rw [Ideal.sqrt_coe, if_neg (not_lt.2 hr), ← EReal.coe_mul, Real.mul_self_sqrt hr]

/-- One more than a value that is not negative is not zero. -/
theorem one_add_ne {x : EReal} (h : 0 ≤ x) : 1 + x ≠ 0 := by
  have : (0 : EReal) < 1 + x := lt_of_lt_of_le zero_lt_one (le_add_of_nonneg_right h)
  exact this.ne'

/-- A value that is not negative, and a positive number more, is not zero. -/
theorem add_eps_ne {e : ℝ} (he : 0 < e) {x : EReal} (h : 0 ≤ x) : x + (e : EReal) ≠ 0 := by
  have he' : (0 : EReal) < (e : EReal) := by exact_mod_cast he
  have : (0 : EReal) < x + (e : EReal) := lt_of_lt_of_le he' (le_add_of_nonneg_left h)
  exact this.ne'

/-! ### The squash -/

/-- The squash as the kernel computes it: one scale for the capsule, times each entry. -/
def squash (e : EReal) (s : Fin 16 → EReal) (o : Fin 16) : EReal :=
  s o * Ideal.div (Ideal.div (∑ j, s j * s j) (1 + ∑ j, s j * s j))
    (Ideal.sqrt (∑ j, s j * s j) + e)

/-- The squash as the reference writes it: from the norm, each entry divided at the end. -/
def squashRef (e : EReal) (s : Fin 16 → EReal) (o : Fin 16) : EReal :=
  Ideal.div
    (Ideal.div (Ideal.sqrt (∑ j, s j * s j) * Ideal.sqrt (∑ j, s j * s j))
      (1 + Ideal.sqrt (∑ j, s j * s j) * Ideal.sqrt (∑ j, s j * s j)) * s o)
    (Ideal.sqrt (∑ j, s j * s j) + e)

/-- The two squashes agree on every vector, infinite entries included. -/
theorem squashRef_eq {e : ℝ} (he : 0 < e) (s : Fin 16 → EReal) (o : Fin 16) :
    squashRef (e : EReal) s o = squash (e : EReal) s o := by
  have hn := sum_sq_nonneg s
  unfold squashRef squash
  rw [sqrt_mul_self hn, div_of_ne (one_add_ne hn), div_of_ne (add_eps_ne he (sqrt_nonneg hn)),
    div_of_ne (add_eps_ne he (sqrt_nonneg hn))]
  ac_rfl

/-- A vector with an infinite entry is squashed to zero. -/
theorem squash_of_top {e : ℝ} (he : 0 < e) (s : Fin 16 → EReal) (h : ∑ j, s j * s j = ⊤) (o : Fin 16) :
    squash (e : EReal) s o = 0 := by
  have h1 : (1 : EReal) + ⊤ ≠ 0 := one_add_ne le_top
  have h2 : (⊤ : EReal) + (e : EReal) ≠ 0 := add_eps_ne he le_top
  unfold squash
  have h3 : (1 : EReal) + ⊤ = ⊤ := EReal.add_top_of_ne_bot (EReal.coe_ne_bot 1)
  rw [h, div_of_ne h1, h3, EReal.inv_top, mul_zero, Ideal.sqrt_top,
    div_of_ne h2, zero_mul, mul_zero]

/-- The entries of a vector whose squares have a finite sum are finite. -/
theorem fin_of_sumsq {s : Fin 16 → EReal} (h : ∑ j, s j * s j ≠ ⊤) (o : Fin 16) : IsReal (s o) := by
  have h0 : IsReal (∑ j, s j * s j) :=
    fin_of_ne h (fun e => absurd (sum_sq_nonneg s) (by rw [e]; simp))
  have h1 := fin_of_sum _ _ h0 o (Finset.mem_univ o)
  refine fin_of_ne (fun e => h1.ne_top ?_) (fun e => h1.ne_top ?_)
  · rw [e]; simp
  · rw [e]; simp

/-- The inverse of a finite value is finite. -/
theorem fin_inv {x : EReal} (h : IsReal x) : IsReal x⁻¹ := by
  obtain ⟨r, rfl⟩ := h; exact ⟨r⁻¹, (EReal.coe_inv r).symm⟩

/-- The root of a finite value that is not negative is finite. -/
theorem fin_sqrt {x : EReal} (h : IsReal x) (h0 : 0 ≤ x) : IsReal (Ideal.sqrt x) := by
  obtain ⟨r, rfl⟩ := h
  have hr : 0 ≤ r := by exact_mod_cast h0
  exact ⟨Real.sqrt r, by rw [Ideal.sqrt_coe, if_neg (not_lt.2 hr)]⟩

/-- The squash of a finite vector is finite. -/
theorem fin_squash {e : ℝ} (he : 0 < e) {s : Fin 16 → EReal} (h : ∀ j, IsReal (s j)) (o : Fin 16) :
    IsReal (squash (e : EReal) s o) := by
  have hn := sum_sq_nonneg s
  have hs : IsReal (∑ j, s j * s j) := IsReal.sum _ _ fun j _ => (h j).mul (h j)
  unfold squash
  rw [div_of_ne (one_add_ne hn), div_of_ne (add_eps_ne he (sqrt_nonneg hn))]
  exact (h o).mul ((hs.mul (fin_inv (IsReal.add ⟨1, rfl⟩ hs))).mul
    (fin_inv ((fin_sqrt hs hn).add ⟨e, rfl⟩)))

/-! ### The couplings -/

/-- The softmax as the kernel computes it: exponentials times the inverse of their sum. -/
def soft (l : Fin 10 → EReal) (c : Fin 10) : EReal :=
  Ideal.exp (l c) * Ideal.div 1 (∑ k, Ideal.exp (l k))

/-- The softmax as the reference computes it, from logits shifted by `M`. -/
def softRef (M : EReal) (l : Fin 10 → EReal) (c : Fin 10) : EReal :=
  Ideal.div (Ideal.exp (l c - M)) (∑ k, Ideal.exp (l k - M))

/-- A sum of ten exponentials is positive. -/
theorem real_sum_exp_pos (l : Fin 10 → ℝ) : 0 < ∑ k, Real.exp (l k) :=
  Finset.sum_pos (fun k _ => Real.exp_pos _) ⟨0, Finset.mem_univ 0⟩

/-- The kernel's softmax of finite logits is a real softmax. -/
theorem soft_coe (l : Fin 10 → ℝ) (c : Fin 10) :
    soft (fun k => (l k : EReal)) c = ((Real.exp (l c) * (∑ k, Real.exp (l k))⁻¹ : ℝ) : EReal) := by
  have hp := real_sum_exp_pos l
  unfold soft
  simp only [Ideal.exp_coe]
  rw [coe_sum, div_of_ne (by exact_mod_cast hp.ne'), one_mul, ← EReal.coe_inv, ← EReal.coe_mul]

/-- The couplings of finite logits are positive reals. -/
theorem soft_pos {l : Fin 10 → EReal} (h : ∀ k, IsReal (l k)) (c : Fin 10) :
    ∃ k : ℝ, 0 < k ∧ soft l c = (k : EReal) := by
  choose f hf using h
  obtain rfl : l = fun k => (f k : EReal) := funext hf
  exact ⟨_, mul_pos (Real.exp_pos _) (inv_pos.2 (real_sum_exp_pos f)), soft_coe f c⟩

/-- On finite logits the shift by any finite `M` does not matter. -/
theorem softRef_eq {l : Fin 10 → EReal} (h : ∀ k, IsReal (l k)) {M : EReal} (hM : IsReal M) (c : Fin 10) :
    softRef M l c = soft l c := by
  choose f hf using h
  obtain rfl : l = fun k => (f k : EReal) := funext hf
  obtain ⟨M, rfl⟩ := hM
  have hp := real_sum_exp_pos fun k => f k - M
  rw [soft_coe]
  unfold softRef
  simp only [← EReal.coe_sub, Ideal.exp_coe]
  rw [coe_sum, div_of_ne (by exact_mod_cast hp.ne'), ← EReal.coe_inv, ← EReal.coe_mul]
  congr 1
  simp only [Real.exp_sub, ← Finset.sum_div]
  have h1 := (real_sum_exp_pos f).ne'
  have h2 := (Real.exp_pos M).ne'
  field_simp

/-- The couplings of zero logits are all one tenth. -/
theorem soft_zero (c : Fin 10) : soft (fun _ => 0) c = (((10 : ℝ)⁻¹ : ℝ) : EReal) := by
  have h := soft_coe (fun _ => 0) c
  simp only [EReal.coe_zero] at h
  rw [h]
  simp

/-- The greatest of ten finite logits is finite. -/
theorem fin_max {l : Fin 10 → EReal} (h : ∀ k, IsReal (l k)) :
    IsReal (Finset.univ.fold max ⊥ l) := by
  have key : ∀ s : Finset (Fin 10), s.fold max ⊥ l ≠ ⊤ := by
    intro s
    induction s using Finset.induction_on with
    | empty => simp
    | insert a s ha ih =>
      rw [Finset.fold_insert ha]
      exact (max_lt (lt_top_iff_ne_top.2 (h a).ne_top) (lt_top_iff_ne_top.2 ih)).ne
  refine fin_of_ne (key _) (fun e => ?_)
  have h0 : (Finset.univ : Finset (Fin 10)) = insert 0 (Finset.univ.erase 0) :=
    (Finset.insert_erase (Finset.mem_univ 0)).symm
  rw [h0, Finset.fold_insert (Finset.notMem_erase _ _)] at e
  exact (h 0).ne_bot (le_bot_iff.1 (le_of_le_of_eq (le_max_left _ _) e))

/-! ### Routing -/

/-- The predictions of one example: input capsule, output capsule, entry. -/
abbrev Pred := Fin 1152 → Fin 10 → Fin 16 → EReal

/-- The sum over the input capsules of the predictions, weighted by the couplings of the logits `l`. -/
def wsum (u : Pred) (l : Fin 1152 → Fin 10 → EReal) (c : Fin 10) (o : Fin 16) : EReal :=
  ∑ r, soft (l r) c * u r c o

/-- The inner product of each prediction with the squashed sum `v`. -/
def agree (u : Pred) (v : Fin 10 → Fin 16 → EReal) (r : Fin 1152) (c : Fin 10) : EReal :=
  ∑ o, u r c o * v c o

/-- The output capsules routed with the couplings of the logits `l`. -/
def caps (e : EReal) (u : Pred) (l : Fin 1152 → Fin 10 → EReal) (c : Fin 10) : Fin 16 → EReal :=
  squash e (wsum u l c)

/-- The next logits: each grows by the agreement with the capsules routed so far. -/
def next (e : EReal) (u : Pred) (l : Fin 1152 → Fin 10 → EReal) (r : Fin 1152) (c : Fin 10) : EReal :=
  l r c + agree u (caps e u l) r c

/-- If the weighted sum of a capsule's predictions is finite, so are the predictions. -/
theorem fin_pred {u : Pred} {l : Fin 1152 → Fin 10 → EReal} (hl : ∀ r c, IsReal (l r c))
    {c : Fin 10} {o : Fin 16} (h : IsReal (wsum u l c o)) (r : Fin 1152) : IsReal (u r c o) := by
  have h1 := fin_of_sum _ _ h r (Finset.mem_univ r)
  obtain ⟨k, hk, e⟩ := soft_pos (hl r) c
  rw [e] at h1
  exact fin_of_pos_mul hk h1

/-- The agreement with routed capsules is finite, whatever the predictions are. -/
theorem fin_agree {e : ℝ} (he : 0 < e) (u : Pred) {l : Fin 1152 → Fin 10 → EReal}
    (hl : ∀ r c, IsReal (l r c)) (r : Fin 1152) (c : Fin 10) :
    IsReal (agree u (caps (e : EReal) u l) r c) := by
  unfold agree
  by_cases h : ∑ j, wsum u l c j * wsum u l c j = ⊤
  · have : ∀ o, u r c o * caps (e : EReal) u l c o = 0 := fun o => by
      unfold caps; rw [squash_of_top he _ h, mul_zero]
    rw [Finset.sum_congr rfl fun o _ => this o, Finset.sum_const_zero]
    exact fin_zero
  · have hs := fun o => fin_of_sumsq h o
    exact IsReal.sum _ _ fun o _ => (fin_pred hl (hs o) r).mul (fin_squash he hs o)

/-- Finite logits stay finite. -/
theorem fin_next {e : ℝ} (he : 0 < e) (u : Pred) {l : Fin 1152 → Fin 10 → EReal}
    (hl : ∀ r c, IsReal (l r c)) (r : Fin 1152) (c : Fin 10) : IsReal (next (e : EReal) u l r c) :=
  (hl r c).add (fin_agree he u hl r c)

/-- The logits at the start. -/
def zeros : Fin 1152 → Fin 10 → EReal := fun _ _ => 0

/-- The first logits, all zero, are finite. -/
theorem fin_zeros (r : Fin 1152) (c : Fin 10) : IsReal (zeros r c) := fin_zero

/-- The logits before the third routing step. -/
def logits2 (e : EReal) (u : Pred) : Fin 1152 → Fin 10 → EReal := next e u (next e u zeros)

/-- The routed capsules after three steps. -/
def route (e : EReal) (u : Pred) : Fin 10 → Fin 16 → EReal := caps e u (logits2 e u)

/-- The first step needs no softmax: a tenth of the plain sum. -/
theorem wsum_zeros (u : Pred) (c : Fin 10) (o : Fin 16) :
    (∑ r, u r c o) * (((10 : ℝ)⁻¹ : ℝ) : EReal) = wsum u zeros c o := by
  unfold wsum
  rw [sum_mul_coe _ _ (by norm_num)]
  exact Finset.sum_congr rfl fun r _ => by rw [show zeros r = fun _ => 0 from rfl, soft_zero]

/-- From zero, the first update of the logits is the agreement itself. -/
theorem next_zeros (e : EReal) (u : Pred) (r : Fin 1152) (c : Fin 10) :
    next e u zeros r c = agree u (caps e u zeros) r c := by
  unfold next; rw [show zeros r c = 0 from rfl, zero_add]

end Cert.Capsule

end
-- ==== Proof.Entries.lean ====
/-
  The loop bodies of `Body.lean` read at an index, over the extended reals.
-/
module

public import proofs.«01_k».proof.Proof.Body
public import proofs.«01_k».proof.Proof.Capsule
public import Idealize.ShloMosaic.Lib.Pointwise

@[expose] public section

set_option maxRecDepth 16384

noncomputable section

namespace Cert.Entries

open Cert.KernelIdeal Cert.KernelIdeal.Gen Cert.Body Cert.Capsule
open Idealize.ShloMosaic Idealize.SL.Sem

/-- The small constant of the squash, as both programs print it. -/
def eps : EReal := Ideal.ofBits .f32 0x322BCC77#32

/-- It is a positive real. -/
theorem eps_pos : ∃ e : ℝ, 0 < e ∧ eps = (e : EReal) := by
  refine ⟨_, ?_, by simp [eps, Ideal.ofBits, Ideal.ieee, -EReal.coe_mul]; rfl⟩
  positivity

/-- The repeated entry at an index: the entry itself, whatever the row. -/
theorem spread_apply (x : Vec Ideal S8x1x1152 .f32) (z : Fin 1) (b s : Fin 8) (r : Fin 1152) :
    spread x (ix4 z b s r) = x (ix3 b 0 r) := by
  pointwise [spread]

/-- A doubled tile whose rows are all alike has rows all alike. -/
theorem doubled_apply (x : Vec Ideal S1x8x8x128 .f32) (f : Fin 8 → Fin 128 → EReal)
    (h : ∀ b s l, x (ix4 0 b s l) = f b l) (b : Fin 8) (s : Fin 16) (l : Fin 128) :
    doubled x (ix3 b s l) = f b l := by
  pointwise [doubled]
  split <;> simp only [h]

/-- A tile of the weights, repeated for each example, at an index. -/
theorem weight_apply (w : Vec Ideal S1x1x16x128 .f32) (b : Fin 8) (s : Fin 16) (l : Fin 128) :
    weight w (ix3 b s l) = w (ix4 0 0 s l) := by
  pointwise [weight]

/-- A tile of predictions at an index: the sum over the entries of input times weight. -/
theorem tile_apply (x : Fin 8 → Vec Ideal S1x8x8x128 .f32) (w : Fin 8 → Vec Ideal S1x1x16x128 .f32)
    (f : Fin 8 → Fin 8 → Fin 128 → EReal) (h : ∀ i b s l, x i (ix4 0 b s l) = f i b l)
    (b : Fin 8) (s : Fin 16) (l : Fin 128) :
    tile x w (ix3 b s l) = ∑ i, f i b l * w i (ix4 0 0 s l) := by
  rw [Fin.sum_univ_eight]
  simp only [← weight_apply _ b s l, ← doubled_apply _ _ (h _) b s l]
  pointwise [tile]

/-- The predictions of a tile, as stored, at an index. -/
theorem stored_apply (a : FVec Ideal S8x16x128 .f32) (z : Fin 1) (b : Fin 8) (s : Fin 16) (l : Fin 128) :
    stored a (ix4 z b s l) = a (ix3 b s l) := by
  pointwise [stored]

/-- The tiles added lane by lane. -/
theorem lanes_apply (a : Fin 9 → FVec Ideal S8x16x128 .f32) (j : S8x16x128.Idx) :
    lanes a j = ∑ t, a t j := by
  rw [Fin.sum_univ_castSucc, Fin.sum_univ_eight]
  pointwise [lanes]
  rfl

/-- The sum of squares of each vector, at an index. -/
theorem sumsq_apply (s : FVec Ideal S8x16 .f32) (b : Fin 8) (z : Fin 1) :
    sumsq s (ix2 b z) = ∑ o : Fin 16, s (ix2 b o) * s (ix2 b o) := by
  pointwise [sumsq]

/-- The squash of each example's vector is the squash of `Capsule.lean`. -/
theorem squashed_apply (s : FVec Ideal S8x16 .f32) (b : Fin 8) (o : Fin 16) :
    squashed s (ix2 b o) = squash eps (fun o => s (ix2 b o)) o := by
  unfold squash eps
  simp only [← sumsq_apply s b 0]
  pointwise [squashed]

/-- A tenth of the sum over the lanes. -/
theorem firstSum_apply (a : FVec Ideal S8x16x128 .f32) (b : Fin 8) (o : Fin 16) :
    firstSum a (ix2 b o) = (∑ l : Fin 128, a (ix3 b o l)) * (((10 : ℝ)⁻¹ : ℝ) : EReal) := by
  pointwise [firstSum]
  rfl

/-- The predictions summed with the couplings as weights, at an index. -/
theorem weighted_apply (k : FVec Ideal S8x1152 .f32) (u : Vec Ideal S1x8x16x1152 .f32) (b : Fin 8) (o : Fin 16) :
    weighted k u (ix2 b o) = ∑ r : Fin 1152, k (ix2 b r) * u (ix4 0 b o r) := by
  pointwise [weighted]

/-- The agreement of each prediction with the squashed sum, at an index. -/
theorem agreed_apply (u : Vec Ideal S1x8x16x1152 .f32) (v : FVec Ideal S8x16 .f32) (b : Fin 8) (r : Fin 1152) :
    agreed u v (ix2 b r) = ∑ o : Fin 16, u (ix4 0 b o r) * v (ix2 b o) := by
  pointwise [agreed]

/-- The softmax's denominator, at an index. -/
theorem total_apply (l : Fin 10 → FVec Ideal S8x1152 .f32) (j : S8x1152.Idx) :
    total l j = ∑ k, Ideal.exp (l k j) := by
  rw [Fin.sum_univ_castSucc, Fin.sum_univ_castSucc, Fin.sum_univ_eight]
  pointwise [total]
  rfl

/-- The couplings are the softmax of `Capsule.lean`. -/
theorem coupling_apply (l : Fin 10 → FVec Ideal S8x1152 .f32) (c : Fin 10) (j : S8x1152.Idx) :
    coupling l c j = soft (fun k => l k j) c := by
  unfold soft
  rw [← total_apply l j]
  pointwise [coupling]

/-- A sum over the input capsules, taken lane by lane in tiles of 128. -/
theorem sum_lanes (f : Fin 1152 → EReal) :
    ∑ l : Fin 128, ∑ t : Fin 9, f ⟨128 * t + l, by omega⟩ = ∑ r, f r := by
  rw [Finset.sum_comm, ← Fintype.sum_prod_type' fun (t : Fin 9) (l : Fin 128) => f ⟨128 * t + l, by omega⟩]
  refine Fintype.sum_equiv finProdFinEquiv _ _ fun p => congrArg f (Fin.ext ?_)
  simp [finProdFinEquiv]
  omega

end Cert.Entries

end
-- ==== Proof.Block.lean ====
/-
  What one block of the kernel leaves in the result, as a function of the block's inputs: each example's
  output capsules are the routing of `Capsule.lean`, on the predictions computed from the block.
-/
module

public import proofs.«01_k».proof.Proof.Printed
public import proofs.«01_k».proof.Proof.Entries

@[expose] public section

set_option maxRecDepth 16384

noncomputable section

namespace Cert.Block

open Cert.KernelIdeal Cert.KernelIdeal.Gen Cert.Body Cert.Capsule Cert.Printed Cert.Entries
open Idealize.ShloMosaic Idealize.ShloMosaic.TcCoe Idealize.SL.Sem

variable (arg1 : Memref sig .tc .vmem S8x8x1152 .f32) (harg1 : arg1.IsWhole)
  (arg2 : Memref sig .tc .vmem S10x8x16x1152 .f32) (harg2 : arg2.IsWhole)
  (arg4 : Memref sig .tc .vmem S10x8x16x1152 .f32)
  (arg5 : Memref sig .tc .vmem S8x8x8x1152 .f32)
  (x0 : Vec Ideal S8x8x1152 .f32) (x1 : Vec Ideal S10x8x16x1152 .f32)

/-- The prediction of input capsule `r` for entry `o` of output capsule `c`, for example `b` of the block. -/
def pred (b : Fin 8) : Pred := fun r c o => ∑ k : Fin 8, x0 (ix3 b k r) * x1 (ix4 c k o r)

/-! ### What the loads read -/

/-- A load from a buffer held whole reads its contents at the places the rectangle names. -/
theorem load_apply {s : Shape} (arg : Memref sig .tc .vmem s .f32) (h : arg.IsWhole) (r : LoadRect s)
    (x : Vec Ideal s .f32) (j : r.shape.Idx) :
    arg.view.readAt (Elt Ideal) r (h.unread x) j = x (r.idx j) := by
  rw [View.readAt_apply, h.read_unread]

/-- A list of stores holds tiles of one array `G`: each store, at each of its indices, holds the element of
`G` where the index lands. -/
def Holds {s : Shape} (L : List (View.Piece (Elt Ideal) s .f32)) (G : s.Idx → EReal) : Prop :=
  ∀ p ∈ L, ∀ j : p.1.shape.Idx, ∃ y : s.Idx, (∀ a, p.1.off a + p.1.stride a * j a = y a) ∧ p.2 j = G y

/-- Where such stores cover an element, what they leave there is `G`'s. -/
theorem Holds.canon {s : Shape} {L : List (View.Piece (Elt Ideal) s .f32)} {G : s.Idx → EReal} (hL : Holds L G)
    (y : s.Idx) (hc : ∃ p ∈ L, y ∈ p.1.set) : View.canon L y = G y := by
  refine View.canon_apply_of_pieces (Val := Elt Ideal) G L (fun p hp j => ?_) y hc
  obtain ⟨y, hy, h⟩ := hL p hp j
  rw [h, show p.1.emb j = y from funext fun a => Fin.ext (hy a)]

/-- A load from a buffer of such stores reads `G`. -/
theorem Holds.load {s : Shape} (arg : Memref sig .tc .vmem s .f32) {L : List (View.Piece (Elt Ideal) s .f32)}
    {G : s.Idx → EReal} (hL : Holds L G) (r : LoadRect s)
    (j : r.shape.Idx) (y : s.Idx) (hy : ∀ a, r.off a + r.stride a * j a = y a) (hc : ∃ p ∈ L, y ∈ p.1.set) :
    arg.view.readCov L r j = G y := by
  rw [View.readCov_eq_canon', ← hL.canon y hc]
  exact congrArg _ (funext fun a => Fin.ext (hy a))

/-- What is loaded as entry `k` of the input capsules is the block's row `k`. -/
theorem inputs_apply (k b : Fin 8) (z : Fin 1) (r : Fin 1152) :
    inputs arg1 harg1 x0 k (ix3 b z r) = x0 (ix3 b k r) := by
  refine (load_apply arg1 harg1 _ x0 _).trans (congrArg x0 (funext fun a => Fin.ext ?_))
  fin_cases a <;> simp [inputAt, Rect.unit]

/-- What is loaded as tile `t` of the weights is 128 columns of the weights, from column `128 t` on. -/
theorem weights_apply (c : Fin 10) (k : Fin 8) (t : Fin 9) (z z' : Fin 1) (o : Fin 16) (l : Fin 128) :
    weights arg2 harg2 x1 c k t (ix4 z z' o l) = x1 (ix4 c k o ⟨128 * t + l, by omega⟩) := by
  refine (load_apply arg2 harg2 _ x1 _).trans (congrArg x1 (funext fun a => Fin.ext ?_))
  fin_cases a <;> simp [weightTile, Rect.unit]

/-- The stores of the repeated entries hold the input, whatever the row. -/
theorem spreads_hold : Holds (spreads arg1 harg1 x0) fun y => x0 (ix3 (y 1) (y 0) (y 3)) := by
  intro p hp j
  obtain ⟨n, hn, rfl⟩ := (mem_down _ _ _).1 hp
  obtain ⟨z, b, s, r, rfl⟩ : ∃ (z : Fin 1) (b s : Fin 8) (r : Fin 1152), j = ix4 z b s r :=
    ⟨j 0, j 1, j 2, j 3, eq_ix4 j⟩
  refine ⟨ix4 (Fin.ofNat 8 n) b s r, fun a => ?_,
    (spread_apply _ z b s r).trans (inputs_apply arg1 harg1 x0 _ b 0 r)⟩
  fin_cases a <;> simp [spreadPiece, spreadAt, Rect.unit]

/-- A tile of a repeated entry, loaded back, is the input's. -/
theorem tiles_apply (k : Fin 8) (t : Fin 9) (z : Fin 1) (b s : Fin 8) (l : Fin 128) :
    tiles arg1 harg1 arg5 x0 k t (ix4 z b s l) = x0 (ix3 b k ⟨128 * t + l, by omega⟩) := by
  refine (spreads_hold arg1 harg1 x0).load arg5 _ _ (ix4 k b s ⟨128 * t + l, by omega⟩) (fun a => ?_) ?_
  · fin_cases a <;> simp [spreadTile, Rect.unit]
  · refine ⟨_, (mem_down _ _ _).2 ⟨k, k.isLt, rfl⟩, ?_⟩
    simp only [spreadPiece, spreadAt, Rect.mem_set_unit]
    intro a
    fin_cases a <;> simp [Nat.mod_eq_of_lt] <;> omega

/-- A tile of predictions at an index. -/
theorem tile_pred (c : Fin 10) (t : Fin 9) (b : Fin 8) (o : Fin 16) (l : Fin 128) :
    tile (fun i => tiles arg1 harg1 arg5 x0 i t) (fun i => weights arg2 harg2 x1 c i t) (ix3 b o l)
      = pred x0 x1 b ⟨128 * t + l, by omega⟩ c o :=
  (tile_apply _ _ (fun i b l => x0 (ix3 b i ⟨128 * t + l, by omega⟩))
    (fun _ _ _ _ => tiles_apply arg1 harg1 arg5 x0 _ _ _ _ _ _) b o l).trans
    (Finset.sum_congr rfl fun _ _ => congrArg _ (weights_apply arg2 harg2 x1 _ _ _ _ _ _ _))

/-- The stores of the predictions hold the predictions. -/
theorem preds_hold : Holds (preds arg1 harg1 arg2 harg2 arg5 x0 x1)
    fun y => pred x0 x1 (y 1) (y 3) (y 0) (y 2) := by
  intro p hp j
  obtain ⟨n, hn, rfl⟩ := (mem_down _ _ _).1 hp
  obtain ⟨z, b, o, l, rfl⟩ : ∃ (z : Fin 1) (b : Fin 8) (o : Fin 16) (l : Fin 128), j = ix4 z b o l :=
    ⟨j 0, j 1, j 2, j 3, eq_ix4 j⟩
  have := (Fin.ofNat 9 (n / 10)).isLt
  refine ⟨ix4 (Fin.ofNat 10 n) b o ⟨128 * (Fin.ofNat 9 (n / 10)).val + l, by omega⟩, fun a => ?_,
    (stored_apply _ z b o l).trans (tile_pred arg1 harg1 arg2 harg2 arg5 x0 x1 _ _ b o l)⟩
  fin_cases a <;> simp [predPiece, predTile, Rect.unit]

/-- The predictions for an output capsule, loaded back. -/
theorem loaded_apply (c : Fin 10) (z : Fin 1) (b : Fin 8) (o : Fin 16) (r : Fin 1152) :
    loaded arg1 harg1 arg2 harg2 arg4 arg5 x0 x1 c (ix4 z b o r) = pred x0 x1 b r c o := by
  refine (preds_hold arg1 harg1 arg2 harg2 arg5 x0 x1).load arg4 _ _ (ix4 c b o r) (fun a => ?_) ?_
  · fin_cases a <;> simp [predAt, Rect.unit]
  · have := c.isLt
    have := r.isLt
    refine ⟨_, (mem_down _ _ _).2 ⟨10 * (r / 128) + c, by omega, rfl⟩, ?_⟩
    have h1 : (10 * (r.val / 128) + c.val) % 10 = c := by omega
    have h2 : (10 * (r.val / 128) + c.val) / 10 % 9 = r.val / 128 := by omega
    simp only [predPiece, predTile, Rect.mem_set_unit]
    intro a
    fin_cases a <;> simp [h1, h2] <;> omega

/-- The sums over the tiles, added over the lanes: the sum over all input capsules. -/
theorem laneSum_apply (c : Fin 10) (b : Fin 8) (o : Fin 16) :
    ∑ l : Fin 128, laneSum (tiles arg1 harg1 arg5 x0) (weights arg2 harg2 x1) c (ix3 b o l)
      = ∑ r, pred x0 x1 b r c o := by
  rw [← sum_lanes]
  exact Finset.sum_congr rfl fun l _ => (lanes_apply _ _).trans
    (Finset.sum_congr rfl fun t _ => tile_pred arg1 harg1 arg2 harg2 arg5 x0 x1 c t b o l)

/-! ### The routing of a block -/

section Routing

variable (a : Fin 10 → FVec Ideal S8x16x128 .f32) (u : Fin 10 → Vec Ideal S1x8x16x1152 .f32)
  (l : Fin 10 → FVec Ideal S8x1152 .f32) (p : Pred) (b : Fin 8)

/-- The first logits are the logits after one step from zero. -/
theorem logitsA_apply (ha : ∀ c o, ∑ l : Fin 128, a c (ix3 b o l) = ∑ r, p r c o)
    (hu : ∀ c o r, u c (ix4 0 b o r) = p r c o) (c : Fin 10) (r : Fin 1152) :
    logitsA a u c (ix2 b r) = next eps p zeros r c := by
  rw [next_zeros]
  refine (agreed_apply _ _ b r).trans (Finset.sum_congr rfl fun o _ => ?_)
  rw [hu, squashed_apply]
  unfold caps
  refine congrArg (fun f => p r c o * squash eps f o) (funext fun o => ?_)
  rw [firstSum_apply, ha, wsum_zeros]

/-- The routed capsules of a later step. -/
theorem routed_apply (q : Fin 1152 → Fin 10 → EReal) (hl : ∀ c r, l c (ix2 b r) = q r c)
    (hu : ∀ c o r, u c (ix4 0 b o r) = p r c o) (c : Fin 10) (o : Fin 16) :
    routed l u c (ix2 b o) = caps eps p q c o := by
  refine (squashed_apply _ b o).trans (congrArg (fun f => squash eps f o) (funext fun o => ?_))
  refine (weighted_apply _ _ b o).trans (Finset.sum_congr rfl fun r _ => ?_)
  rw [hu, coupling_apply]
  simp only [hl]

/-- The logits after a later step. -/
theorem logitsB_apply (q : Fin 1152 → Fin 10 → EReal) (hl : ∀ c r, l c (ix2 b r) = q r c)
    (hu : ∀ c o r, u c (ix4 0 b o r) = p r c o) (c : Fin 10) (r : Fin 1152) :
    logitsB l u c (ix2 b r) = next eps p q r c := by
  refine congrArg₂ (· + ·) (hl c r) ((agreed_apply _ _ b r).trans (Finset.sum_congr rfl fun o _ => ?_))
  rw [hu, routed_apply u l p b q hl hu]

/-- The stored capsules are the routed ones. -/
theorem final_apply (ha : ∀ c o, ∑ l : Fin 128, a c (ix3 b o l) = ∑ r, p r c o)
    (hu : ∀ c o r, u c (ix4 0 b o r) = p r c o) (c : Fin 10) (z : Fin 1) (o : Fin 16) :
    final a u c (ix3 b z o) = route eps p c o := by
  have h : final a u c (ix3 b z o) = routed (logitsB (logitsA a u) u) u c (ix2 b o) := by
    pointwise [final]
  rw [h]
  exact routed_apply u _ p b _
    (fun c r => logitsB_apply u _ p b _ (fun c r => logitsA_apply a u p b ha hu c r) hu c r) hu c o

end Routing

/-- The stores of the result hold the routed capsules of each example. -/
theorem results_hold : Holds (results arg1 harg1 arg2 harg2 arg4 arg5 x0 x1)
    fun y => route eps (pred x0 x1 (y 0)) (y 1) (y 2) := by
  intro p hp j
  obtain ⟨n, hn, rfl⟩ := (mem_down _ _ _).1 hp
  obtain ⟨b, z, o, rfl⟩ : ∃ (b : Fin 8) (z : Fin 1) (o : Fin 16), j = ix3 b z o :=
    ⟨j 0, j 1, j 2, eq_ix3 j⟩
  refine ⟨ix3 b (Fin.ofNat 10 n) o, fun a => ?_,
    final_apply _ _ _ b (fun c o => laneSum_apply arg1 harg1 arg2 harg2 arg5 x0 x1 c b o)
      (fun c o r => loaded_apply arg1 harg1 arg2 harg2 arg4 arg5 x0 x1 c 0 b o r) _ z o⟩
  fin_cases a <;> simp [resultPiece, resultAt, Rect.unit]

/-- A block of the result: each example's output capsules, routed. -/
theorem block_apply (c : Dev nD) (i : grid0.Coords) (arg3 : Memref sig .tc .vmem S8x10x16 .f32)
    (harg3 : arg3.IsWhole) (harg4 : arg4.IsWhole) (harg5 : arg5.IsWhole) (y : S8x10x16.Idx) :
    out0_A_2 c i arg1 harg1 arg2 harg2 arg3 harg3 arg4 harg4 arg5 harg5 x0 x1 y
      = route eps (pred x0 x1 (y 0)) (y 1) (y 2) := by
  have hc := cover0_A_2 c i arg1 harg1 arg2 harg2 arg3 harg3 arg4 harg4 arg5 harg5 x0 x1
  unfold out0_A_2
  rw [View.read_writes_eq_canon _ _ _ hc]
  have h := hc y
  rw [results_eq] at h ⊢
  exact (results_hold arg1 harg1 arg2 harg2 arg4 arg5 x0 x1).canon y h

end Cert.Block

end
-- ==== Proof.Array.lean ====
/-
  The kernel's result array: at each example it is the routing of `Capsule.lean` on the example's predictions.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Array

open Cert.KernelIdeal Cert.KernelIdeal.Gen Cert.Capsule Cert.Entries Cert.Block
open Idealize.ShloMosaic Idealize.ShloMosaic.TcCoe Idealize.SL.Sem

variable (m : (ℓ : Loc nD τ sig) → Buf (Elt Ideal) ℓ) (c : Dev nD)

/-- The input capsules, as the kernel is launched on them. -/
def given : FVec Ideal S256x1152x8 .f32 := m ((c : Thread nD τ).loc main_arg0)

/-- The weights, as the kernel is launched on them. -/
def givenW : FVec Ideal S1x1152x10x8x16 .f32 := m ((c : Thread nD τ).loc main_arg1)

/-- The result: each example's output capsules, routed. -/
def routedArray : FVec Ideal S256x10x16 .f32 := fun y =>
  route eps (fun r d o => ∑ k : Fin 8, given m c (ix3 (y 0) r k) * givenW m c (ix5 0 r d k o)) (y 1) (y 2)

/-! ### The arrays the blocks are cut from -/

/-- The input capsules with their entries before them. -/
theorem turned_apply (b : Fin 256) (k : Fin 8) (r : Fin 1152) :
    V m c main_v0 (ix3 b k r) = given m c (ix3 b r k) := by
  unfold given
  entry_read
  pointwise

/-- The weights with the input capsules last. -/
theorem turnedW_apply (d : Fin 10) (k : Fin 8) (o : Fin 16) (r : Fin 1152) :
    V m c main_v2 (ix4 d k o r) = givenW m c (ix5 0 r d k o) := by
  unfold givenW
  entry_read
  pointwise

/-! ### The blocks -/

/-- Step `t` reads block `t` of the inputs. -/
theorem index0 : ∀ t : Fin cfg0.N, win0_0.index t = ![t.val, 0, 0] := by decide +kernel
/-- Every step reads the whole of the weights. -/
theorem index1 : ∀ t : Fin cfg0.N, win0_1.index t = ![0, 0, 0, 0] := by decide +kernel
/-- Step `t` writes block `t` of the result. -/
theorem index2 : ∀ t : Fin cfg0.N, win0_2.index t = ![t.val, 0, 0] := by decide +kernel

/-- The example at place `b` of block `t`. -/
def place (t : Fin cfg0.N) (b : Fin 8) : Fin 256 :=
  ⟨8 * t + b, by have h : t.val < 32 := t.isLt; omega⟩

/-- Block `t` of the input capsules holds eight examples. -/
theorem block0_apply (t : Fin cfg0.N) (b k : Fin 8) (r : Fin 1152) :
    iblk m c 0 t (ix3 b k r) = V m c main_v0 (ix3 (place t b) k r) := by
  blk_ext [iblk, index0 t, place]

/-- Every block of the weights is the whole array. -/
theorem block1_apply (t : Fin cfg0.N) (d : Fin 10) (k : Fin 8) (o : Fin 16) (r : Fin 1152) :
    iblk m c 1 t (ix4 d k o r) = V m c main_v2 (ix4 d k o r) := by
  blk_ext [iblk, index1 t]

/-- The predictions of a block are the array's. -/
theorem pred_block (t : Fin cfg0.N) (b : Fin 8) :
    pred (iblk m c 0 t) (iblk m c 1 t) b
      = fun r d o => ∑ k : Fin 8, given m c (ix3 (place t b) r k)
          * givenW m c (ix5 0 r d k o) := by
  funext r d o
  unfold pred
  refine Finset.sum_congr rfl fun k _ => ?_
  rw [block0_apply, block1_apply, turned_apply, turnedW_apply]

/-- What point `t` leaves in the block of the result. -/
theorem left_apply (t : Fin cfg0.N) (b : Fin 8) (d : Fin 10) (o : Fin 16) :
    outsAt0 m c t (ix3 b d o) = routedArray m c (ix3 (place t b) d o) := by
  unfold outsAt0
  refine (block_apply _ _ _ _ _ _ _ _ _ _ _ _ _ _ (ix3 b d o)).trans ?_
  exact congrArg (fun p => route eps p d o) (pred_block m c t b)

/-- The array the run leaves. -/
theorem array_eq : (dats m 0 c).arrAt 2 cfg0.N = routedArray m c := by
  refine (dats m 0 c).arrAt_eq_of_covers 2 _ (by decide +kernel) fun t hf y => ?_
  obtain ⟨b, d, o, rfl⟩ : ∃ (b : Fin 8) (d : Fin 10) (o : Fin 16), y = ix3 b d o :=
    ⟨y 0, y 1, y 2, eq_ix3 y⟩
  blk_simp
  rw [after0_2]
  refine (left_apply m c t b d o).trans (congrArg (routedArray m c) ?_)
  blk_ext [index2 t, place]

end Cert.Array

end
-- ==== Proof.Reference.lean ====
/-
  The reference's result: at each example it is the routing of `Capsule.lean` on the example's predictions.
-/
module

public import proofs.«01_k».proof.Proof.Entries
public import proofs.«01_k».proof.Proof.Gen.ReferenceIdeal.Read

@[expose] public section

set_option maxRecDepth 16384

noncomputable section

namespace Cert.Reference

open Cert.ReferenceIdeal Cert.ReferenceIdeal.Gen Cert.Capsule Cert.Entries
open Idealize.ShloMosaic Idealize.ShloMosaic.StableHlo Idealize.SL.Sem

/-! ### One routing step, as the reference writes it each time -/

section Steps

variable {F : FTy → Type} [FloatOps F]

/-- The predictions. -/
def predicted (x : FVec F S256x1152x8 .f32) (w : FVec F S1x1152x10x8x16 .f32) : FVec F S256x1152x10x16 .f32 :=
  transpose S256x1152x10x16 [3, 0, 1, 2]
    (Host.dotGeneral dot_S1152x10x8x16_S256x1152x8_S1152x10x16x256_2_2_13_0_0_1 none
      (shapeCast S1152x10x8x16 w shapeCasts_S1x1152x10x8x16_S1152x10x8x16) x)
    transposes_S1152x10x16x256_S256x1152x10x16_3_0_1_2

/-- The logits before the first step. -/
def start : FVec F S256x1152x10 .f32 :=
  broadcastInDim S256x1152x10 ![] bcast_S_S256x1152x10 (constant S_ .f32 0x00000000#32)

/-- The largest logit of each input capsule, from negative infinity. -/
def largest (l : FVec F S256x1152x10 .f32) : FVec F S256x1152 .f32 :=
  Host.reduce FloatOps.maximumf l (constant S_ .f32 0xFF800000#32) reducesTo_S256x1152x10_S256x1152_d2 h_S_

/-- That, and negative infinity once more. -/
def peak (l : FVec F S256x1152x10 .f32) : FVec F S256x1152 .f32 :=
  maximumf (broadcastInDim S256x1152 ![] bcast_S_S256x1152 (constant S_ .f32 0xFF800000#32)) (largest l)

/-- The exponentials of the logits less the largest. -/
def raised (l : FVec F S256x1152x10 .f32) : FVec F S256x1152x10 .f32 :=
  Host.exp (subf l
    (broadcastInDim S256x1152x10 ![0, 1, 2] bcast_S256x1152x1_S256x1152x10_0_1_2
      (broadcastInDim S256x1152x1 ![0, 1] bcast_S256x1152_S256x1152x1_0_1 (peak l))))

/-- The couplings: the softmax of the logits over the output capsules. -/
def coupled (l : FVec F S256x1152x10 .f32) : FVec F S256x1152x10 .f32 :=
  Host.divf (raised l)
    (broadcastInDim S256x1152x10 ![0, 1, 2] bcast_S256x1152x1_S256x1152x10_0_1_2
      (broadcastInDim S256x1152x1 ![0, 1] bcast_S256x1152_S256x1152x1_0_1
        (Host.reduceAdd (raised l) (constant S_ .f32 0x00000000#32) reducesTo_S256x1152x10_S256x1152_d2 h_S_)))

/-- The predictions summed with the couplings as weights. -/
def summed (l : FVec F S256x1152x10 .f32) (u : FVec F S256x1152x10x16 .f32) : FVec F S256x10x16 .f32 :=
  Host.dotGeneral dot_S256x1152x10_S256x1152x10x16_S256x10x16_1_1_n_3_02_02 none (coupled l) u

/-- The norm of each vector. -/
def norm (s : FVec F S256x10x16 .f32) : FVec F S256x10x1 .f32 :=
  Host.sqrt (broadcastInDim S256x10x1 ![0, 1] bcast_S256x10_S256x10x1_0_1
    (Host.reduceAdd (mulf s s) (constant S_ .f32 0x00000000#32) reducesTo_S256x10x16_S256x10_d2 h_S_))

/-- The squash of each vector. -/
def shrunk (s : FVec F S256x10x16 .f32) : FVec F S256x10x16 .f32 :=
  Host.divf
    (mulf
      (broadcastInDim S256x10x16 ![0, 1, 2] bcast_S256x10x1_S256x10x16_0_1_2
        (Host.divf (mulf (norm s) (norm s))
          (addf (broadcastInDim S256x10x1 ![] bcast_S_S256x10x1 (constant S_ .f32 0x3F800000#32))
            (mulf (norm s) (norm s)))))
      s)
    (broadcastInDim S256x10x16 ![0, 1, 2] bcast_S256x10x1_S256x10x16_0_1_2
      (addf (norm s) (broadcastInDim S256x10x1 ![] bcast_S_S256x10x1 (constant S_ .f32 0x322BCC77#32))))

/-- The agreement of each prediction with the output capsules `v`. -/
def agreement (v : FVec F S256x10x16 .f32) (u : FVec F S256x1152x10x16 .f32) : FVec F S256x1152x10 .f32 :=
  transpose S256x1152x10 [0, 2, 1]
    (Host.dotGeneral dot_S256x10x16_S256x1152x10x16_S256x10x1152_2_3_n_1_01_02 none v u)
    transposes_S256x10x1152_S256x1152x10_0_2_1

/-- The logits after a step. -/
def grown (l : FVec F S256x1152x10 .f32) (u : FVec F S256x1152x10x16 .f32) : FVec F S256x1152x10 .f32 :=
  addf l (agreement (shrunk (summed l u)) u)

/-- The output capsules after three steps. -/
def result (x : FVec F S256x1152x8 .f32) (w : FVec F S1x1152x10x8x16 .f32) : FVec F S256x10x16 .f32 :=
  shrunk (summed (grown (grown start (predicted x w)) (predicted x w)) (predicted x w))

/-- The reference's operations are these steps. -/
theorem printed (x : FVec F S256x1152x8 .f32) (w : FVec F S1x1152x10x8x16 .f32) :
    Read.val_main_v82 (F := F) x w = result x w := by
  sl_kernel_rfl

end Steps

/-! ### The steps at an index -/

/-- A prediction is the sum over the eight entries of weight times input. -/
theorem predicted_apply (x : FVec Ideal S256x1152x8 .f32) (w : FVec Ideal S1x1152x10x8x16 .f32)
    (b : Fin 256) (r : Fin 1152) (c : Fin 10) (o : Fin 16) :
    predicted x w (ix4 b r c o) = ∑ k : Fin 8, w (ix5 0 r c k o) * x (ix3 b r k) := by
  pointwise [predicted]

/-- The pattern of negative infinity. -/
theorem negInf : (Ideal.ofBits .f32 0xFF800000#32 : EReal) = ⊥ := by
  simp [Ideal.ofBits, Ideal.ieee]

/-- The largest logit, at an index. -/
theorem largest_apply (l : FVec Ideal S256x1152x10 .f32) (b : Fin 256) (r : Fin 1152) :
    largest l (ix2 b r) = Finset.univ.fold max (Ideal.ofBits .f32 0xFF800000#32) fun c => l (ix3 b r c) := by
  pointwise [largest]

/-- The array of negative infinities, at an index. -/
theorem floor_apply (j : S256x1152.Idx) :
    broadcastInDim S256x1152 ![] bcast_S_S256x1152 (constant (F := Ideal) S_ .f32 0xFF800000#32) j = ⊥ :=
  negInf

/-- The larger of two arrays, at an index. -/
theorem max_apply (a b : FVec Ideal S256x1152 .f32) (j : S256x1152.Idx) : maximumf a b j = max (a j) (b j) := by
  pointwise

/-- The peak is the largest logit of the ten output capsules. -/
theorem peak_apply (l : FVec Ideal S256x1152x10 .f32) (b : Fin 256) (r : Fin 1152) :
    peak l (ix2 b r) = Finset.univ.fold max ⊥ fun c => l (ix3 b r c) := by
  unfold peak
  rw [max_apply, floor_apply, largest_apply, negInf, max_eq_right bot_le]

/-- The exponentials, at an index. -/
theorem raised_apply (l : FVec Ideal S256x1152x10 .f32) (b : Fin 256) (r : Fin 1152) (c : Fin 10) :
    raised l (ix3 b r c) = Ideal.exp (l (ix3 b r c) - peak l (ix2 b r)) := by
  pointwise [raised]

/-- The couplings are the softmax with the peak taken off, at an index. -/
theorem coupled_apply (l : FVec Ideal S256x1152x10 .f32) (b : Fin 256) (r : Fin 1152) (c : Fin 10) :
    coupled l (ix3 b r c) = softRef (peak l (ix2 b r)) (fun c => l (ix3 b r c)) c := by
  unfold softRef
  simp only [← raised_apply]
  pointwise [coupled]

/-- The weighted sum over the input capsules, at an index. -/
theorem summed_apply (l : FVec Ideal S256x1152x10 .f32) (u : FVec Ideal S256x1152x10x16 .f32)
    (b : Fin 256) (c : Fin 10) (o : Fin 16) :
    summed l u (ix3 b c o) = ∑ r : Fin 1152, coupled l (ix3 b r c) * u (ix4 b r c o) := by
  pointwise [summed]

/-- The norm is the root of the sum of squares. -/
theorem norm_apply (s : FVec Ideal S256x10x16 .f32) (b : Fin 256) (c : Fin 10) (z : Fin 1) :
    norm s (ix3 b c z) = Ideal.sqrt (∑ o : Fin 16, s (ix3 b c o) * s (ix3 b c o)) := by
  pointwise [norm]

/-- The squash, at an index, in the reference's form. -/
theorem shrunk_apply (s : FVec Ideal S256x10x16 .f32) (b : Fin 256) (c : Fin 10) (o : Fin 16) :
    shrunk s (ix3 b c o) = squashRef eps (fun o => s (ix3 b c o)) o := by
  unfold squashRef eps
  simp only [← norm_apply s b c 0]
  pointwise [shrunk]

/-- The agreement is an inner product over the sixteen entries. -/
theorem agreement_apply (v : FVec Ideal S256x10x16 .f32) (u : FVec Ideal S256x1152x10x16 .f32)
    (b : Fin 256) (r : Fin 1152) (c : Fin 10) :
    agreement v u (ix3 b r c) = ∑ o : Fin 16, v (ix3 b c o) * u (ix4 b r c o) := by
  pointwise [agreement]

/-! ### The steps are the routing -/

variable (l : FVec Ideal S256x1152x10 .f32) (u : FVec Ideal S256x1152x10x16 .f32) (p : Pred)
  (q : Fin 1152 → Fin 10 → EReal) (b : Fin 256)

/-- From finite logits, the reference's routed capsules are the kernel's. -/
theorem step_apply (hq : ∀ r c, IsReal (q r c)) (hl : ∀ r c, l (ix3 b r c) = q r c)
    (hu : ∀ r c o, u (ix4 b r c o) = p r c o) (c : Fin 10) (o : Fin 16) :
    shrunk (summed l u) (ix3 b c o) = caps eps p q c o := by
  obtain ⟨e, he, e_eq⟩ := eps_pos
  rw [shrunk_apply, e_eq, squashRef_eq he, ← e_eq]
  refine congrArg (fun f => squash eps f o) (funext fun o => ?_)
  rw [summed_apply]
  refine Finset.sum_congr rfl fun r _ => ?_
  rw [hu, coupled_apply, peak_apply]
  simp only [hl]
  rw [softRef_eq (hq r) (fin_max (hq r))]

/-- From finite logits, the reference's next logits are the kernel's. -/
theorem grown_apply (hq : ∀ r c, IsReal (q r c)) (hl : ∀ r c, l (ix3 b r c) = q r c)
    (hu : ∀ r c o, u (ix4 b r c o) = p r c o) (r : Fin 1152) (c : Fin 10) :
    grown l u (ix3 b r c) = next eps p q r c := by
  refine congrArg₂ (· + ·) (hl r c) ((agreement_apply _ _ b r c).trans (Finset.sum_congr rfl fun o _ => ?_))
  rw [hu, step_apply l u p q b hq hl hu, mul_comm]

/-- The logits stay finite. -/
theorem fin_step (hq : ∀ r c, IsReal (q r c)) (r : Fin 1152) (c : Fin 10) : IsReal (next eps p q r c) := by
  obtain ⟨e, he, e_eq⟩ := eps_pos
  rw [e_eq]
  exact fin_next he p hq r c

/-- The first logits are zero. -/
theorem start_apply (r : Fin 1152) (c : Fin 10) : start (F := Ideal) (ix3 b r c) = zeros r c := by
  unfold zeros
  pointwise [start]

/-- The reference's result at an index: the example's output capsules, routed. -/
theorem result_apply (x : FVec Ideal S256x1152x8 .f32) (w : FVec Ideal S1x1152x10x8x16 .f32) (b : Fin 256)
    (c : Fin 10) (o : Fin 16) :
    result x w (ix3 b c o)
      = route eps (fun r c o => ∑ k : Fin 8, x (ix3 b r k) * w (ix5 0 r c k o)) c o := by
  have hu : ∀ r c o, predicted x w (ix4 b r c o) = ∑ k : Fin 8, x (ix3 b r k) * w (ix5 0 r c k o) := fun r c o =>
    (predicted_apply x w b r c o).trans (Finset.sum_congr rfl fun k _ => mul_comm _ _)
  have h1 := fin_step (fun r c o => ∑ k : Fin 8, x (ix3 b r k) * w (ix5 0 r c k o)) _ fin_zeros
  exact step_apply _ _ _ _ b (fin_step _ _ h1)
    (grown_apply _ _ _ _ b h1 (grown_apply _ _ _ _ b fin_zeros (start_apply b) hu) hu) hu c o

end Cert.Reference

end
-- ==== Proof.Equal.lean ====
/-
  The value claim: over the extended reals the kernel and the reference end with equal results, whatever the
  arguments.
-/
module

public import proofs.«01_k».proof.Defs
public import proofs.«01_k».proof.Proof.Array
public import proofs.«01_k».proof.Proof.Reference

@[expose] public section

set_option maxRecDepth 16384

noncomputable section

namespace Cert.Equal

open Idealize.ShloMosaic Idealize.ShloMosaic.TcCoe Idealize.SL.Sem

/-- The reference's operations on the kernel's arguments give the kernel's array. -/
theorem results_agree (m : (ℓ : Loc Cert.KernelIdeal.nD Cert.KernelIdeal.τ Cert.KernelIdeal.sig) → Buf (Elt Ideal) ℓ)
    (c : Dev Cert.KernelIdeal.nD) :
    Cert.Reference.result (Cert.Array.given m c) (Cert.Array.givenW m c) = Cert.Array.routedArray m c := by
  funext y
  obtain ⟨b, d, o, rfl⟩ : ∃ (b : Fin 256) (d : Fin 10) (o : Fin 16), y = ix3 b d o :=
    ⟨y 0, y 1, y 2, eq_ix3 y⟩
  exact Cert.Reference.result_apply _ _ b d o

/-- From memories that agree on the arguments, both programs run to the end, leave the same result, and leave
their arguments as they were. -/
theorem algebraic : Cert.algebraic_KernelIdeal_ReferenceIdeal := by
  intro m g m' g' _ hargs
  refine ⟨fun c => Cert.Array.routedArray m c, ?_, ?_⟩
  · refine (θ_run _ _ _).mono (fun r h c => ?_) (Cert.KernelIdeal.Value.run_blocks m g)
    exact ⟨(h c).1.trans (Cert.Array.array_eq m c), (h c).2⟩
  · refine (θ_run _ _ _).mono (fun r h c => ?_) (Cert.ReferenceIdeal.Value.run m' g')
    refine ⟨(h c).1.trans ?_, (h c).2⟩
    rw [Cert.ReferenceIdeal.Read.val_main_v82_eq, Cert.Reference.printed]
    refine Eq.trans ?_ (results_agree m c)
    exact congrArg₂ Cert.Reference.result (hargs c).1 (hargs c).2

end Cert.Equal

end
-- ==== Proof.lean ====
/-
  The claims of this directory, assembled: the three programs run and leave their arguments alone, the
  printed word for 0.1 is the rounding of the constant named in its place, and the kernel computes what the
  reference computes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal

@[expose] public section

noncomputable section

namespace Cert.Proof

open Idealize.ShloMosaic Idealize.SL.Sem

/-- The kernel, on machine words, runs to the end from any memory; its two arguments end as they were. -/
theorem frame_kernel : Cert.quiescent_Kernel := fun m ρ _ => Cert.Kernel.Gen.frame m ρ

/-- The same for the kernel over the extended reals. -/
theorem frame_ideal : Cert.quiescent_KernelIdeal := fun m ρ _ => Cert.KernelIdeal.Gen.frame m ρ

/-- The same for the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The printed word for 0.1 is the rounding of the constant named in its place, one tenth. -/
theorem tenth : Cert.preserves_Kernel_KernelIdeal :=
  IdealRules.named_const.statement Cert.KernelIdeal.κ "tenth" .f32 0x3DCCCCCD#32 ((10⁻¹ : ℝ) : EReal) rfl

/-- Everything claimed. -/
theorem claim : Cert.Claim :=
  ⟨Cert.Kernel.Gen.facts, Cert.KernelIdeal.Gen.facts, Cert.ReferenceIdeal.Gen.facts,
    frame_kernel, frame_ideal, frame_reference, tenth, Cert.Equal.algebraic⟩

end Cert.Proof

end
